-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x4096 : Shape := ⟨3, ![8, 1, 4096]⟩
abbrev S8x1x1 : Shape := ⟨3, ![8, 1, 1]⟩
abbrev S6144x4096 : Shape := ⟨2, ![6144, 4096]⟩
abbrev S6144 : Shape := ⟨1, ![6144]⟩
abbrev S8x4096 : Shape := ⟨2, ![8, 4096]⟩
abbrev S8x1 : Shape := ⟨2, ![8, 1]⟩
abbrev S1x6144 : Shape := ⟨2, ![1, 6144]⟩
abbrev S8x6144 : Shape := ⟨2, ![8, 6144]⟩
abbrev S3 : Shape := ⟨1, ![3]⟩
abbrev S12 : Shape := ⟨1, ![12]⟩
abbrev S1 : Shape := ⟨1, ![1]⟩
abbrev S_ : Shape := ⟨0, ![]⟩
abbrev S512x4096 : Shape := ⟨2, ![512, 4096]⟩
abbrev S8x512 : Shape := ⟨2, ![8, 512]⟩
abbrev S1x512 : Shape := ⟨2, ![1, 512]⟩
abbrev S8x1x6144 : Shape := ⟨3, ![8, 1, 6144]⟩

abbrev nBuf : Space → Nat
  | .hbm => 9
  | .vmem => 5
  | .smem => 0
  | _ => 0

abbrev bufTy : (tb : Table) → Fin (tcTables nBuf tb) → BufTy
  | .hbm, ⟨0, _⟩ => ⟨S8x1x4096, .fp8e4m3⟩
  | .hbm, ⟨1, _⟩ => ⟨S8x1x1, .f32⟩
  | .hbm, ⟨2, _⟩ => ⟨S6144x4096, .fp8e4m3⟩
  | .hbm, ⟨3, _⟩ => ⟨S6144, .f32⟩
  | .hbm, ⟨4, _⟩ => ⟨S8x4096, .fp8e4m3⟩
  | .hbm, ⟨5, _⟩ => ⟨S8x1, .f32⟩
  | .hbm, ⟨6, _⟩ => ⟨S1x6144, .f32⟩
  | .hbm, ⟨7, _⟩ => ⟨S8x6144, .bf16⟩
  | .hbm, ⟨8, _⟩ => ⟨S8x1x6144, .bf16⟩
  | .local _ .vmem, ⟨0, _⟩ => ⟨S8x6144, .bf16⟩
  | .local _ .vmem, ⟨1, _⟩ => ⟨S8x4096, .fp8e4m3⟩
  | .local _ .vmem, ⟨2, _⟩ => ⟨S8x1, .f32⟩
  | .local _ .vmem, ⟨3, _⟩ => ⟨S6144x4096, .fp8e4m3⟩
  | .local _ .vmem, ⟨4, _⟩ => ⟨S1x6144, .f32⟩
  | _, _ => ⟨S8x1x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S8x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8x1x4096 : Shape := ⟨3, ![8, 1, 4096]⟩
abbrev S8x1x1 : Shape := ⟨3, ![8, 1, 1]⟩
abbrev S6144x4096 : Shape := ⟨2, ![6144, 4096]⟩
abbrev S6144 : Shape := ⟨1, ![6144]⟩
abbrev S8x1x6144 : Shape := ⟨3, ![8, 1, 6144]⟩
abbrev S1x1x6144 : Shape := ⟨3, ![1, 1, 6144]⟩

abbrev nBuf : Space → Nat
  | .hbm => 5
  | .vmem => 5
  | .smem => 0
  | _ => 0

abbrev bufTy : (tb : Table) → Fin (tcTables nBuf tb) → BufTy
  | .hbm, ⟨0, _⟩ => ⟨S8x1x4096, .fp8e4m3⟩
  | .hbm, ⟨1, _⟩ => ⟨S8x1x1, .f32⟩
  | .hbm, ⟨2, _⟩ => ⟨S6144x4096, .fp8e4m3⟩
  | .hbm, ⟨3, _⟩ => ⟨S6144, .f32⟩
  | .hbm, ⟨4, _⟩ => ⟨S8x1x6144, .bf16⟩
  | .local _ .vmem, ⟨0, _⟩ => ⟨S8x1x4096, .fp8e4m3⟩
  | .local _ .vmem, ⟨1, _⟩ => ⟨S8x1x1, .f32⟩
  | .local _ .vmem, ⟨2, _⟩ => ⟨S6144x4096, .fp8e4m3⟩
  | .local _ .vmem, ⟨3, _⟩ => ⟨S6144, .f32⟩
  | .local _ .vmem, ⟨4, _⟩ => ⟨S8x1x6144, .bf16⟩
  | _, _ => ⟨S8x1x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Block.lean ====
/-
  What one chunk of the kernel computes.

  The kernel cuts the 6144 output channels into twelve chunks of 512. A chunk takes all the activations, the 512 rows
  of the weight that belong to its channels, and their 512 scales. Here the chunk is read at one entry, and compared
  with one entry of the whole scaled product.
-/
module

public import proofs.«01_k».proof.Proof.Gen.KernelIdeal.Frame
public import Idealize.ShloMosaic.Lib.Pipeline.ValueKit
public import Idealize.ShloMosaic.Lib.Pipeline.ReadBack
public import Idealize.ShloMosaic.Lib.ValueIdx

@[expose] public section

set_option maxRecDepth 16384

noncomputable section

namespace Cert.KernelIdeal.Linear

open Cert.KernelIdeal Cert.KernelIdeal.Gen Idealize.ShloMosaic Idealize.ShloMosaic.TcCoe

/-- The scaled product of 8 rows of activations with 6144 weight rows: entry (r, q) is the dot product of activation
    row r with weight row q, times the scale of row r, times the scale of channel q. -/
def lin (X : Vec Ideal S8x4096 .fp8e4m3) (XS : Vec Ideal S8x1 .f32) (W : Vec Ideal S6144x4096 .fp8e4m3)
    (WS : Vec Ideal S1x6144 .f32) : Vec Ideal S8x6144 .bf16 :=
  fun y => (∑ k : Fin 4096, X (ix2 (y 0) k) * W (ix2 (y 1) k)) * XS (ix2 (y 0) 0) * WS (ix2 0 (y 1))

/-- One entry of a chunk: the dot product of an activation row with one of the chunk's weight rows, times both scales. -/
theorem chunk_apply (X : Vec Ideal S8x4096 .fp8e4m3) (XS : Vec Ideal S8x1 .f32) (W : Vec Ideal S512x4096 .fp8e4m3)
    (WS : Vec Ideal S1x512 .f32) (x : S8x512.Idx) :
    k0_pay1 (F := Ideal) X XS W WS x =
      (∑ k : Fin 4096, X (ix2 (x 0) k) * W (ix2 (x 1) k)) * XS (ix2 (x 0) 0) * WS (ix2 0 (x 1)) := by
  idx_vars x
  unfold k0_pay1
  pointwise

/-- The chunk that starts at channel o holds columns o to o + 511 of the whole scaled product. -/
theorem chunk_eq_lin (o : ℕ) (X : Vec Ideal S8x4096 .fp8e4m3) (XS : Vec Ideal S8x1 .f32)
    (W : Vec Ideal S6144x4096 .fp8e4m3) (WS : Vec Ideal S1x6144 .f32)
    (iX : ∀ a, (![0, 0] : Fin 2 → ℕ) a + (![8, 4096] : Fin 2 → ℕ) a ≤ S8x4096.size a)
    (iXS : ∀ a, (![0, 0] : Fin 2 → ℕ) a + (![8, 1] : Fin 2 → ℕ) a ≤ S8x1.size a)
    (iW : ∀ a, (![o, 0] : Fin 2 → ℕ) a + (![512, 4096] : Fin 2 → ℕ) a ≤ S6144x4096.size a)
    (iWS : ∀ a, (![0, o] : Fin 2 → ℕ) a + (![1, 512] : Fin 2 → ℕ) a ≤ S1x6144.size a)
    (x : S8x512.Idx) (y : S8x6144.Idx) (h0 : (y 0 : ℕ) = x 0) (h1 : (y 1 : ℕ) = o + x 1) :
    k0_pay1 (F := Ideal) (View.ld X (Rect.unit (s := S8x4096) ![0, 0] ![8, 4096] iX))
      (View.ld XS (Rect.unit (s := S8x1) ![0, 0] ![8, 1] iXS))
      (View.ld W (Rect.unit (s := S6144x4096) ![o, 0] ![512, 4096] iW))
      (View.ld WS (Rect.unit (s := S1x6144) ![0, o] ![1, 512] iWS)) x = lin X XS W WS y := by
  have hX : ∀ k : Fin 4096, View.ld X (Rect.unit (s := S8x4096) ![0, 0] ![8, 4096] iX) (ix2 (x 0) k) = X (ix2 (y 0) k) :=
    fun k => View.ld_unit_apply_of X _ _ _ _ _ fun a => by fin_cases a <;> simp [ix2, h0]
  have hXS : View.ld XS (Rect.unit (s := S8x1) ![0, 0] ![8, 1] iXS) (ix2 (x 0) 0) = XS (ix2 (y 0) 0) :=
    View.ld_unit_apply_of XS _ _ _ _ _ fun a => by fin_cases a <;> simp [ix2, h0]
  have hW : ∀ k : Fin 4096, View.ld W (Rect.unit (s := S6144x4096) ![o, 0] ![512, 4096] iW) (ix2 (x 1) k) = W (ix2 (y 1) k) :=
    fun k => View.ld_unit_apply_of W _ _ _ _ _ fun a => by fin_cases a <;> simp [ix2, h1]
  have hWS : View.ld WS (Rect.unit (s := S1x6144) ![0, o] ![1, 512] iWS) (ix2 0 (x 1)) = WS (ix2 0 (y 1)) :=
    View.ld_unit_apply_of WS _ _ _ _ _ fun a => by fin_cases a <;> simp [ix2, h1]
  rw [chunk_apply, hXS, hWS]
  simp only [hX, hW]
  rfl

end Cert.KernelIdeal.Linear

end
-- ==== Proof.Array.lean ====
/-
  What the kernel's output block holds.

  The body copies its operands into scratch memory and stores twelve chunks side by side into the output block. Every
  entry of the block lies in one of the chunks, and a chunk holds the columns of the scaled product at its place, so
  the block holds the whole scaled product.
-/
module

public import proofs.«01_k».proof.Proof.Block

@[expose] public section

set_option maxRecDepth 16384

noncomputable section

namespace Cert.KernelIdeal.Linear

open Cert.KernelIdeal Cert.KernelIdeal.Gen Idealize.ShloMosaic Idealize.ShloMosaic.TcCoe Idealize.SL.Sem

/-- A load from a buffer that one store filled from end to end reads that store's value at the loaded place. -/
theorem readCov_whole {sig : RefSig} {κ : Kind} {sp : Space} {s : Shape} {e : EltTy} {Val : EltTy → Type}
    [∀ e, Nonempty (Val e)] (v : View sig κ sp s e) (Z : s.Idx → Val e) (r : Rect s) :
    v.readCov [⟨Rect.whole s, Z⟩] r.toLoadRect = View.ld Z r :=
  View.readCov_fill v _ Z [] r fun _ => rfl

variable (m : (ℓ : Loc nD τ sig) → Buf (Elt Ideal) ℓ)

/-- At the one grid point, the output block is the scaled product of the operands as the host passes them. -/
theorem outsAt_eq (c : Dev nD) (t : Fin cfg0.N) :
    outsAt0 m c t = lin (V m c main_v0) (V m c main_v1) (V m c main_arg2) (V m c main_v2) := by
  funext y
  unfold outsAt0 out0_A_0
  rw [View.read_writes_eq_canon _ _ _ (cover0_A_0 c _ _ _ _ _ _ _ _ _ _ _ _ _ _)]
  unfold kernelRun0_A
  dsimp only
  frame_out
  simp (disch := decide) only [↓ View.readCov_skip, ↓ View.readCov_cons_toLoadRect, ↓ readCov_whole]
  canon_tiles x h
  all_goals exact chunk_eq_lin _ _ _ _ _ _ _ _ _ x y (by simpa using h0) (by simpa using h1)

end Cert.KernelIdeal.Linear

end
-- ==== Proof.Run.lean ====
/-
  The kernel's run, read.

  The host lays the arguments out as matrices, the kernel fills its output array with the scaled product of these, and
  the host lays the array out with the axes of the result. Only the layout changes on the host: each reshape adds or
  drops an axis of extent 1.
-/
module

public import proofs.«01_k».proof.Proof.Array

@[expose] public section

set_option maxRecDepth 16384

noncomputable section

namespace Cert.KernelIdeal.Linear

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The output array -/

/-- The output block starts at row 0 and column 0. -/
theorem index_zero : ∀ t : Fin cfg0.N, win0_0.index t (0 : Fin 2) = 0 ∧ win0_0.index t (1 : Fin 2) = 0 :=
  (by decide +kernel : ∀ t : Fin grid0.N, _)

/-- The output block is the whole output array: an index of the block is the same index of the array. -/
theorem emb_block (t : Fin cfg0.N) (j : S8x6144.Idx) : ((cfg0.win 0).blk t).view.emb j = j := by
  obtain ⟨e0, e1⟩ := index_zero t
  funext a; apply Fin.ext
  match a with
  | ⟨0, _⟩ => show win0_0.index t (0 : Fin 2) * 8 + 1 * (j 0).val = (j 0).val; omega
  | ⟨1, _⟩ => show win0_0.index t (1 : Fin 2) * 6144 + 1 * (j 1).val = (j 1).val; omega

/-- What the one grid point writes back is its block of the scaled product. -/
theorem flushed_eq (c : Dev nD) (t : Fin cfg0.N) :
    (dats m 0 c).flushed 0 t = ((cfg0.win 0).blk t).view.read (Elt Ideal)
      (lin (V m c main_v0) (V m c main_v1) (V m c main_arg2) (V m c main_v2)) := by
  show (cfg0.win 0).cut (grid0.coords t) ((dats m 0 c).after 0 t) = _
  rw [after0_0, outsAt_eq]
  generalize lin (V m c main_v0) (V m c main_v1) (V m c main_arg2) (V m c main_v2) = X
  funext j
  show X j = X (((cfg0.win 0).blk t).view.emb j)
  rw [emb_block]

/-- Every entry of the output array is written back by the grid point. -/
theorem covered (i : S8x6144.Idx) :
    ∃ t : Fin cfg0.N, (cfg0.win 0).flush t = true ∧ i ∈ ((cfg0.win 0).blk t).view.set :=
  ⟨(⟨0, by decide⟩ : Fin cfg0.N), by decide, by
    have h := ((cfg0.win 0).blk (⟨0, by decide⟩ : Fin cfg0.N)).view.emb_mem_set i; rwa [emb_block] at h⟩

/-- The output array ends as the scaled product of the operands as the host passes them. -/
theorem final (c : Dev nD) :
    (dats m 0 c).arrAt 0 cfg0.N = lin (V m c main_v0) (V m c main_v1) (V m c main_arg2) (V m c main_v2) :=
  (dats m 0 c).arrAt_eq_of_cover 0 _ (fun t _ => flushed_eq m c t) covered

/-! ## The host's layout changes -/

/-- The activations reach the kernel as an 8 by 4096 matrix. -/
theorem V_v0 (c : Dev nD) : V m c main_v0 =
    shapeCast S8x4096 (m ((c : Thread nD τ).loc main_arg0)) shapeCasts_S8x1x4096_S8x4096 := by
  show StableHlo.after hostOps0 (fun b => m (c, b)) (Proc.devRef .tc main_v0) = _
  after_results
  rfl

/-- The activation scales reach the kernel as a column of 8. -/
theorem V_v1 (c : Dev nD) : V m c main_v1 =
    shapeCast S8x1 (m ((c : Thread nD τ).loc main_arg1)) shapeCasts_S8x1x1_S8x1 := by
  show StableHlo.after hostOps0 (fun b => m (c, b)) (Proc.devRef .tc main_v1) = _
  after_results
  rfl

/-- The channel scales reach the kernel as a row of 6144. -/
theorem V_v2 (c : Dev nD) : V m c main_v2 =
    shapeCast S1x6144 (m ((c : Thread nD τ).loc main_arg3)) shapeCasts_S6144_S1x6144 := by
  show StableHlo.after hostOps0 (fun b => m (c, b)) (Proc.devRef .tc main_v2) = _
  after_results
  rfl

/-- The result of the kernel as a function of its arguments. -/
def result (a0 : Vec Ideal S8x1x4096 .fp8e4m3) (a1 : Vec Ideal S8x1x1 .f32) (a2 : Vec Ideal S6144x4096 .fp8e4m3)
    (a3 : Vec Ideal S6144 .f32) : Vec Ideal S8x1x6144 .bf16 :=
  shapeCast S8x1x6144 (lin (shapeCast S8x4096 a0 shapeCasts_S8x1x4096_S8x4096) (shapeCast S8x1 a1 shapeCasts_S8x1x1_S8x1)
    a2 (shapeCast S1x6144 a3 shapeCasts_S6144_S1x6144)) shapeCasts_S8x6144_S8x1x6144

/-- The host's last step lays the output array out as the result. -/
theorem tail_eq (c : Dev nD) : Pipeline.afterTail₀ cfgs (dats m) 0 (V0 m) [hostOps1] c main_v4 =
    shapeCast S8x1x6144 ((dats m 0 c).arrAt 0 cfg0.N) shapeCasts_S8x6144_S8x1x6144 := by
  have hinj : Function.Injective (Pipeline.arrRef (cfgs 0).spec) := by decide
  have harr := Pipeline.withArrays_arr (cfgs 0).spec hinj c (V0 m c) (fun w => (dats m 0 c).arrAt w (cfgs 0).N) 0
  unfold Pipeline.afterTail₀
  generalize Pipeline.withArrays (cfgs 0).spec c (V0 m c) (fun w => (dats m 0 c).arrAt w (cfgs 0).N) = Z at harr ⊢
  rw [← harr]
  after_results
  rfl

/-- After the run the result buffer holds the result, and the arguments are unchanged. -/
theorem run : θ_run defs (onTc (τ := τ) (main (F := Ideal))) ⟨m, fun _ => 0, ρ⟩ fun r => ∀ c : Dev nD,
      r.2.mem ((c : Thread nD τ).loc main_v4) = result (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h c).2 main_v4 (Pipeline.mem_restRefs_of main_v4 (by decide) (by decide))).trans
          ((tail_eq m c).trans (by rw [final, V_v0, V_v1, V_v2, V_main_arg2]; rfl)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.Linear

end
-- ==== Proof.Equation.lean ====
/-
  The equation: the kernel's result is the reference's.

  Entry (b, s, q) of either is the dot product over the 4096 input channels of activation row b and weight row q,
  times the activation scale of row b, times the channel scale of q, in this order.
-/
module

public import proofs.«01_k».proof.Proof.Run
public import proofs.«01_k».proof.Proof.Gen.ReferenceIdeal.Value

@[expose] public section

set_option maxRecDepth 16384

noncomputable section

namespace Cert.Linear

open Idealize.ShloMosaic Cert.ReferenceIdeal

/-- One entry of the reference's result. -/
theorem reference_apply (a0 : Vec Ideal S8x1x4096 .fp8e4m3) (a1 : Vec Ideal S8x1x1 .f32)
    (a2 : Vec Ideal S6144x4096 .fp8e4m3) (a3 : Vec Ideal S6144 .f32) (b : Fin 8) (s : Fin 1) (q : Fin 6144) :
    Cert.ReferenceIdeal.Value.G4 (F := Ideal) a0 a1 a2 a3 (ix3 b s q) =
      (∑ k : Fin 4096, a0 (ix3 b s k) * a2 (ix2 q k)) * a1 (ix3 b 0 0) * a3 (ix1 q) := by
  unfold Cert.ReferenceIdeal.Value.G4 Cert.ReferenceIdeal.Gen.k0_pay1
  pointwise

/-- One entry of the kernel's result. -/
theorem kernel_apply (a0 : Vec Ideal S8x1x4096 .fp8e4m3) (a1 : Vec Ideal S8x1x1 .f32)
    (a2 : Vec Ideal S6144x4096 .fp8e4m3) (a3 : Vec Ideal S6144 .f32) (b : Fin 8) (s : Fin 1) (q : Fin 6144) :
    Cert.KernelIdeal.Linear.result a0 a1 a2 a3 (ix3 b s q) =
      (∑ k : Fin 4096, a0 (ix3 b s k) * a2 (ix2 q k)) * a1 (ix3 b 0 0) * a3 (ix1 q) := by
  obtain rfl : s = 0 := Subsingleton.elim _ _
  unfold Cert.KernelIdeal.Linear.result Cert.KernelIdeal.Linear.lin
  pointwise

/-- The two results are equal. -/
theorem result_eq (a0 : Vec Ideal S8x1x4096 .fp8e4m3) (a1 : Vec Ideal S8x1x1 .f32)
    (a2 : Vec Ideal S6144x4096 .fp8e4m3) (a3 : Vec Ideal S6144 .f32) :
    Cert.KernelIdeal.Linear.result a0 a1 a2 a3 = Cert.ReferenceIdeal.Value.G4 (F := Ideal) a0 a1 a2 a3 := by
  funext i
  idx_vars i
  exact (kernel_apply a0 a1 a2 a3 _ _ _).trans (reference_apply a0 a1 a2 a3 _ _ _).symm

end Cert.Linear

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every run of each program ends, with the arguments unchanged and every semaphore counter at zero; the
    ideal program is the kernel's own text read over the extended reals; and there the kernel's result is the
    reference's. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  fun m ρ m' ρ' _ h => by
    refine ⟨fun c => Cert.KernelIdeal.Linear.result _ _ _ _, Cert.KernelIdeal.Linear.run m ρ, ?_⟩
    refine (θ_run _ _ _).mono (fun r hr c => ⟨(hr c).1.trans ?_, (hr c).2⟩) (Cert.ReferenceIdeal.Value.run (F := Ideal) m' ρ')
    obtain ⟨h0, h1, h2, h3⟩ := h c
    exact (congr (congr (congr (congrArg Cert.ReferenceIdeal.Value.G4 h0) h1) h2) h3).trans
      (Cert.Linear.result_eq _ _ _ _).symm⟩

end Cert.Proof

end
